-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x128x60x80 : Shape := ⟨4, ![32, 128, 60, 80]⟩
abbrev S64x128 : Shape := ⟨2, ![64, 128]⟩
abbrev S_ : Shape := ⟨0, ![]⟩

class Facts : Prop where
  bcast_S_S32x128x60x80 : S_.BroadcastsInDim S32x128x60x80 (![] : Fin 0 → Fin S32x128x60x80.rank)
  bcast_S_S64x128 : S_.BroadcastsInDim S64x128 (![] : Fin 0 → Fin S64x128.rank)

variable [Facts]

def fn {F : FTy → Type} [FloatOps F] (main_arg0 : FVec F S32x128x60x80 .f32) (main_arg1 : FVec F S64x128 .f32) (main_arg2 : FVec F S64x128 .f32) : IVec S32x128x60x80 1 × IVec S64x128 1 :=
  let main_v0 : FVec F S32x128x60x80 .f32 := Host.absf main_arg0
  let main_cst : FVec F S_ .f32 := constant S_ .f32 0x7F800000#32
  let main_v1 : FVec F S32x128x60x80 .f32 := broadcastInDim S32x128x60x80 ![] bcast_S_S32x128x60x80 main_cst
  let main_v2 : IVec S32x128x60x80 1 := cmpf .olt main_v0 main_v1
  let main_v3 : FVec F S64x128 .f32 := Host.absf main_arg1
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  (main_v2, main_v5)
-- ==== Kernel.lean ====
abbrev S32x128x60x80 : Shape := ⟨4, ![32, 128, 60, 80]⟩
abbrev S64x128 : Shape := ⟨2, ![64, 128]⟩
abbrev S32x128x4800 : Shape := ⟨3, ![32, 128, 4800]⟩
abbrev S32x64x128 : Shape := ⟨3, ![32, 64, 128]⟩
abbrev S8x64x4800 : Shape := ⟨3, ![8, 64, 4800]⟩
abbrev S8x64x128 : Shape := ⟨3, ![8, 64, 128]⟩
abbrev S64x64 : Shape := ⟨2, ![64, 64]⟩
abbrev S1x64x4800 : Shape := ⟨3, ![1, 64, 4800]⟩
abbrev S64x4800 : Shape := ⟨2, ![64, 4800]⟩
abbrev S1x64 : Shape := ⟨2, ![1, 64]⟩
abbrev S1x4800 : Shape := ⟨2, ![1, 4800]⟩
abbrev S4800 : Shape := ⟨1, ![4800]⟩
abbrev S8x4800 : Shape := ⟨2, ![8, 4800]⟩
abbrev S64x8 : Shape := ⟨2, ![64, 8]⟩
abbrev S64x1 : Shape := ⟨2, ![64, 1]⟩
abbrev S64 : Shape := ⟨1, ![64]⟩
abbrev S1x64x128 : Shape := ⟨3, ![1, 64, 128]⟩
abbrev S1 : Shape := ⟨1, ![1]⟩
abbrev S1x1x1 : Shape := ⟨3, ![1, 1, 1]⟩
abbrev S1x1 : Shape := ⟨2, ![1, 1]⟩
abbrev S32x8192 : Shape := ⟨2, ![32, 8192]⟩

abbrev nBuf : Space → Nat
  | .hbm => 6
  | .vmem => 8
  | .smem => 0
  | _ => 0

abbrev bufTy : (tb : Table) → Fin (tcTables nBuf tb) → BufTy
  | .hbm, ⟨0, _⟩ => ⟨S32x128x60x80, .f32⟩
  | .hbm, ⟨1, _⟩ => ⟨S64x128, .f32⟩
  | .hbm, ⟨2, _⟩ => ⟨S64x128, .f32⟩
  | .hbm, ⟨3, _⟩ => ⟨S32x128x4800, .f32⟩
  | .hbm, ⟨4, _⟩ => ⟨S32x64x128, .f32⟩
  | .hbm, ⟨5, _⟩ => ⟨S32x8192, .f32⟩
  | .local _ .vmem, ⟨0, _⟩ => ⟨S8x64x4800, .f32⟩
  | .local _ .vmem, ⟨1, _⟩ => ⟨S8x64x4800, .f32⟩
  | .local _ .vmem, ⟨2, _⟩ => ⟨S8x64x4800, .f32⟩
  | .local _ .vmem, ⟨3, _⟩ => ⟨S8x64x4800, .f32⟩
  | .local _ .vmem, ⟨4, _⟩ => ⟨S64x128, .f32⟩
  | .local _ .vmem, ⟨5, _⟩ => ⟨S64x128, .f32⟩
  | .local _ .vmem, ⟨6, _⟩ => ⟨S8x64x128, .f32⟩
  | .local _ .vmem, ⟨7, _⟩ => ⟨S8x64x128, .f32⟩
  | _, _ => ⟨S32x128x60x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x4800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x4800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x128x60x80 : Shape := ⟨4, ![32, 128, 60, 80]⟩
abbrev S64x128 : Shape := ⟨2, ![64, 128]⟩
abbrev S_ : Shape := ⟨0, ![]⟩
abbrev S32x60x80 : Shape := ⟨3, ![32, 60, 80]⟩
abbrev S32x1x60x80 : Shape := ⟨4, ![32, 1, 60, 80]⟩
abbrev S32x128x4800 : Shape := ⟨3, ![32, 128, 4800]⟩
abbrev S32x4800x64 : Shape := ⟨3, ![32, 4800, 64]⟩
abbrev S32x64x4800 : Shape := ⟨3, ![32, 64, 4800]⟩
abbrev S32x4800 : Shape := ⟨2, ![32, 4800]⟩
abbrev S32x1x4800 : Shape := ⟨3, ![32, 1, 4800]⟩
abbrev S32x64x128 : Shape := ⟨3, ![32, 64, 128]⟩
abbrev S32x64 : Shape := ⟨2, ![32, 64]⟩
abbrev S32x64x1 : Shape := ⟨3, ![32, 64, 1]⟩
abbrev S1x64x128 : Shape := ⟨3, ![1, 64, 128]⟩
abbrev S32x8192 : Shape := ⟨2, ![32, 8192]⟩
abbrev S32 : Shape := ⟨1, ![32]⟩
abbrev S32x1 : Shape := ⟨2, ![32, 1]⟩

abbrev nBuf : Space → Nat
  | .hbm => 60
  | .vmem => 0
  | .smem => 0
  | _ => 0

abbrev bufTy : (tb : Table) → Fin (tcTables nBuf tb) → BufTy
  | .hbm, ⟨0, _⟩ => ⟨S32x128x60x80, .f32⟩
  | .hbm, ⟨1, _⟩ => ⟨S64x128, .f32⟩
  | .hbm, ⟨2, _⟩ => ⟨S64x128, .f32⟩
  | .hbm, ⟨3, _⟩ => ⟨S32x128x60x80, .f32⟩
  | .hbm, ⟨4, _⟩ => ⟨S_, .f32⟩
  | .hbm, ⟨5, _⟩ => ⟨S32x60x80, .f32⟩
  | .hbm, ⟨6, _⟩ => ⟨S32x1x60x80, .f32⟩
  | .hbm, ⟨7, _⟩ => ⟨S32x1x60x80, .f32⟩
  | .hbm, ⟨8, _⟩ => ⟨S_, .f32⟩
  | .hbm, ⟨9, _⟩ => ⟨S32x1x60x80, .f32⟩
  | .hbm, ⟨10, _⟩ => ⟨S32x1x60x80, .f32⟩
  | .hbm, ⟨11, _⟩ => ⟨S32x128x60x80, .f32⟩
  | .hbm, ⟨12, _⟩ => ⟨S32x128x60x80, .f32⟩
  | .hbm, ⟨13, _⟩ => ⟨S32x128x4800, .f32⟩
  | .hbm, ⟨14, _⟩ => ⟨S32x4800x64, .f32⟩
  | .hbm, ⟨15, _⟩ => ⟨S32x64x4800, .f32⟩
  | .hbm, ⟨16, _⟩ => ⟨S_, .f32⟩
  | .hbm, ⟨17, _⟩ => ⟨S32x4800, .f32⟩
  | .hbm, ⟨18, _⟩ => ⟨S_, .f32⟩
  | .hbm, ⟨19, _⟩ => ⟨S32x4800, .f32⟩
  | .hbm, ⟨20, _⟩ => ⟨S32x4800, .f32⟩
  | .hbm, ⟨21, _⟩ => ⟨S32x1x4800, .f32⟩
  | .hbm, ⟨22, _⟩ => ⟨S32x64x4800, .f32⟩
  | .hbm, ⟨23, _⟩ => ⟨S32x64x4800, .f32⟩
  | .hbm, ⟨24, _⟩ => ⟨S32x64x4800, .f32⟩
  | .hbm, ⟨25, _⟩ => ⟨S_, .f32⟩
  | .hbm, ⟨26, _⟩ => ⟨S32x4800, .f32⟩
  | .hbm, ⟨27, _⟩ => ⟨S32x1x4800, .f32⟩
  | .hbm, ⟨28, _⟩ => ⟨S32x64x4800, .f32⟩
  | .hbm, ⟨29, _⟩ => ⟨S32x64x4800, .f32⟩
  | .hbm, ⟨30, _⟩ => ⟨S32x64x128, .f32⟩
  | .hbm, ⟨31, _⟩ => ⟨S_, .f32⟩
  | .hbm, ⟨32, _⟩ => ⟨S32x64, .f32⟩
  | .hbm, ⟨33, _⟩ => ⟨S32x64x1, .f32⟩
  | .hbm, ⟨34, _⟩ => ⟨S1x64x128, .f32⟩
  | .hbm, ⟨35, _⟩ => ⟨S32x64x128, .f32⟩
  | .hbm, ⟨36, _⟩ => ⟨S32x64x128, .f32⟩
  | .hbm, ⟨37, _⟩ => ⟨S32x64x128, .f32⟩
  | .hbm, ⟨38, _⟩ => ⟨S32x64x128, .f32⟩
  | .hbm, ⟨39, _⟩ => ⟨S32x64x128, .f32⟩
  | .hbm, ⟨40, _⟩ => ⟨S_, .f32⟩
  | .hbm, ⟨41, _⟩ => ⟨S32x64, .f32⟩
  | .hbm, ⟨42, _⟩ => ⟨S32x64x1, .f32⟩
  | .hbm, ⟨43, _⟩ => ⟨S32x64x1, .f32⟩
  | .hbm, ⟨44, _⟩ => ⟨S_, .f32⟩
  | .hbm, ⟨45, _⟩ => ⟨S32x64x1, .f32⟩
  | .hbm, ⟨46, _⟩ => ⟨S32x64x1, .f32⟩
  | .hbm, ⟨47, _⟩ => ⟨S32x64x128, .f32⟩
  | .hbm, ⟨48, _⟩ => ⟨S32x64x128, .f32⟩
  | .hbm, ⟨49, _⟩ => ⟨S32x8192, .f32⟩
  | .hbm, ⟨50, _⟩ => ⟨S32x8192, .f32⟩
  | .hbm, ⟨51, _⟩ => ⟨S_, .f32⟩
  | .hbm, ⟨52, _⟩ => ⟨S32, .f32⟩
  | .hbm, ⟨53, _⟩ => ⟨S32x1, .f32⟩
  | .hbm, ⟨54, _⟩ => ⟨S32x1, .f32⟩
  | .hbm, ⟨55, _⟩ => ⟨S_, .f32⟩
  | .hbm, ⟨56, _⟩ => ⟨S32x1, .f32⟩
  | .hbm, ⟨57, _⟩ => ⟨S32x1, .f32⟩
  | .hbm, ⟨58, _⟩ => ⟨S32x8192, .f32⟩
  | .hbm, ⟨59, _⟩ => ⟨S32x8192, .f32⟩
  | _, _ => ⟨S32x128x60x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Finite.lean ====
/-
  WHAT THE PRECONDITION SAYS: where `finite` is all ones, no entry of the batch and no weight is infinite.
-/
module

public import proofs.«01_k».proof.Pre_finite
public import Idealize.ShloMosaic.Lib.Pointwise

@[expose] public section

noncomputable section

namespace Cert.Pre_finite

open Idealize.ShloMosaic

/-- The shape relations the precondition's operations take. -/
theorem shapes : Facts := ⟨by decide, by decide⟩

/-- The pattern the magnitudes are compared with is the greatest value. -/
theorem bits_top : Ideal.ofBits .f32 0x7F800000#32 = ⊤ := by
  simp [Ideal.ofBits, Ideal.ieee]

/-- A value whose magnitude is below the greatest value is neither infinity. -/
theorem ne_of_mark (v : EReal)
    (h : BitVec.ofBool (decide (max v (-v) < Ideal.ofBits .f32 0x7F800000#32)) = 1#1) : v ≠ ⊤ ∧ v ≠ ⊥ := by
  rw [bits_top] at h
  constructor <;> rintro rfl <;> simp at h

variable [Facts] (x : Vec Ideal S32x128x60x80 .f32) (w z : Vec Ideal S64x128 .f32)

/-- The first mark is set only where the batch's entry is finite. -/
theorem batch_finite (h : (fn (F := Ideal) x w z).1 = fun _ => 1#1) (i : S32x128x60x80.Idx) :
    (x i : EReal) ≠ ⊤ ∧ (x i : EReal) ≠ ⊥ :=
  ne_of_mark _ (congrFun h i)

/-- The second mark is set only where the weight is finite. -/
theorem weight_finite (h : (fn (F := Ideal) x w z).2 = fun _ => 1#1) (i : S64x128.Idx) :
    (w i : EReal) ≠ ⊤ ∧ (w i : EReal) ≠ ⊥ :=
  ne_of_mark _ (congrFun h i)

end Cert.Pre_finite

end
-- ==== Proof.Math.lean ====
/-
  THE MATHEMATICS of one image's residual sums, over the extended reals, with no array in sight. An image is a function
  `X c s` (channel `c` of 128, pixel `s` of 4800), the assignment's weights are `W k c` (cluster `k` of 64), the
  cluster centres `C k c`. Two ways to the same residuals are written down, then one shared normalisation:

    the fused way        every pixel keeps its own length: the weights `share` carry the reciprocal length, so the
                         products are taken with the raw image and the mass multiplies the length back in
                         (`prodF`, `massF`);
    the textbook way     the image is scaled to unit length first, then assigned by a softmax that subtracts the
                         largest score (`prodT`, `massT`).

  `prodF_eq` and `massF_eq`: they agree when the image and the weights hold no infinity. The centres may hold
  anything: they enter only `descr`, which is one function of the products and masses.
-/
module

public import Idealize.ShloMosaic.PureOps.Ideal.Laws
public import Idealize.ShloMosaic.Lib.IdealHost

@[expose] public section

noncomputable section

namespace Vlad

open Idealize.ShloMosaic

/-- The least length a normalisation divides by. -/
def eps : EReal := Ideal.ofBits .f32 0x2B8CBCCC#32

/-- `eps` is a positive real. -/
theorem eps_pos : ∃ e : ℝ, 0 < e ∧ eps = (e : EReal) := by
  refine ⟨9223372 * 2 ^ (-63 : ℤ), by positivity, ?_⟩
  simp [eps, Ideal.ofBits, Ideal.ieee, -EReal.coe_mul]

section Defs
variable (W : Fin 64 → Fin 128 → EReal) (X : Fin 128 → Fin 4800 → EReal)

/-- A pixel's length, at least `eps`. -/
def len (s : Fin 4800) : EReal := max (Ideal.sqrt (∑ c, X c s * X c s)) eps

/-- The reciprocal of a pixel's length. -/
def recip (s : Fin 4800) : EReal := Ideal.div 1 (len X s)

/-- The fused way's unscaled assignment: the exponential of a score of the raw pixel times its reciprocal length. -/
def rise (k : Fin 64) (s : Fin 4800) : EReal := Ideal.exp ((∑ c, W k c * X c s) * recip X s)

/-- The fused way's weights: the softmax's share times the pixel's reciprocal length. -/
def share (k : Fin 64) (s : Fin 4800) : EReal := rise W X k s * Ideal.div (recip X s) (∑ k', rise W X k' s)

/-- The fused way's products with the raw image. -/
def prodF (k : Fin 64) (c : Fin 128) : EReal := ∑ s, share W X k s * X c s

/-- The fused way's masses: the weights with the length multiplied back in. -/
def massF (k : Fin 64) : EReal := ∑ s, share W X k s * len X s

/-- The textbook way's image: every pixel scaled to unit length. -/
def unit (c : Fin 128) (s : Fin 4800) : EReal := Ideal.div (X c s) (len X s)

/-- The textbook way's scores. -/
def score (k : Fin 64) (s : Fin 4800) : EReal := ∑ c, unit X c s * W k c

/-- The largest score of a pixel. -/
def best (s : Fin 4800) : EReal := (Finset.univ : Finset (Fin 64)).fold max ⊥ fun k => score W X k s

/-- The exponential of a score less the largest. -/
def lift (k : Fin 64) (s : Fin 4800) : EReal := Ideal.exp (score W X k s - best W X s)

/-- The softmax over the clusters. -/
def soft (k : Fin 64) (s : Fin 4800) : EReal := Ideal.div (lift W X k s) (∑ k', lift W X k' s)

/-- The textbook way's products with the unit image. -/
def prodT (k : Fin 64) (c : Fin 128) : EReal := ∑ s, soft W X k s * unit X c s

/-- The textbook way's masses. -/
def massT (k : Fin 64) : EReal := ∑ s, soft W X k s

end Defs

section Tail
variable (P : Fin 64 → Fin 128 → EReal) (A : Fin 64 → EReal) (C : Fin 64 → Fin 128 → EReal)

/-- The residuals: products less mass times centre. -/
def resid (k : Fin 64) (c : Fin 128) : EReal := P k c - A k * C k c

/-- The residuals with every cluster's row scaled to unit length. -/
def intra (k : Fin 64) (c : Fin 128) : EReal :=
  Ideal.div (resid P A C k c) (max (Ideal.sqrt (∑ c', resid P A C k c' * resid P A C k c')) eps)

/-- The descriptor: the rows scaled together to unit length. -/
def descr (k : Fin 64) (c : Fin 128) : EReal :=
  Ideal.div (intra P A C k c) (max (Ideal.sqrt (∑ k', ∑ c', intra P A C k' c' * intra P A C k' c')) eps)

end Tail

/-! ## Both ways on real images -/

/-- A finite sum of reals read as extended reals is the real sum so read. -/
theorem sum_coe {ι : Type*} (t : Finset ι) (f : ι → ℝ) : ∑ i ∈ t, (f i : EReal) = ((∑ i ∈ t, f i : ℝ) : EReal) :=
  (map_sum (⟨⟨((↑) : ℝ → EReal), EReal.coe_zero⟩, EReal.coe_add⟩ : ℝ →+ EReal) f t).symm

/-- A maximum of reals over a nonempty index is a real. -/
theorem fold_max_coe (f : Fin 64 → ℝ) :
    ∃ r : ℝ, (Finset.univ : Finset (Fin 64)).fold max ⊥ (fun k => (f k : EReal)) = (r : EReal) := by
  have hlt : (Finset.univ : Finset (Fin 64)).fold max ⊥ (fun k => (f k : EReal)) < ⊤ :=
    (Finset.fold_max_lt ⊤).mpr ⟨bot_lt_top, fun k _ => EReal.coe_lt_top _⟩
  have hgt : ⊥ < (Finset.univ : Finset (Fin 64)).fold max ⊥ (fun k => (f k : EReal)) :=
    (Finset.lt_fold_max ⊥).mpr (Or.inr ⟨0, Finset.mem_univ _, EReal.bot_lt_coe _⟩)
  exact ⟨_, (EReal.coe_toReal hlt.ne hgt.ne').symm⟩

section Reals
variable (w : Fin 64 → Fin 128 → ℝ) (x : Fin 128 → Fin 4800 → ℝ)

/-- A real image's lengths are positive reals. -/
theorem len_coe (s : Fin 4800) : ∃ n : ℝ, 0 < n ∧ len (fun c s => (x c s : EReal)) s = (n : EReal) := by
  obtain ⟨e, he, hE⟩ := eps_pos
  refine ⟨max (Real.sqrt (∑ c, x c s * x c s)) e, lt_max_of_lt_right he, ?_⟩
  have h0 : ¬ (∑ c, x c s * x c s) < 0 := not_lt.mpr (Finset.sum_nonneg fun c _ => mul_self_nonneg _)
  simp only [len, hE, ← EReal.coe_mul, sum_coe, Ideal.sqrt_coe, if_neg h0]
  exact (EReal.coe_strictMono.monotone.map_max).symm

/-- What the two ways make of a real image at one pixel: a length `n`, a softmax `a k`, the fused weights
    `a k / n` and the unit pixel `x c / n`. -/
theorem pixel (s : Fin 4800) : ∃ (n : ℝ) (a : Fin 64 → ℝ), n ≠ 0
    ∧ len (fun c s => (x c s : EReal)) s = (n : EReal)
    ∧ (∀ c, unit (fun c s => (x c s : EReal)) c s = ((x c s * (1 / n) : ℝ) : EReal))
    ∧ (∀ k, share (fun k c => (w k c : EReal)) (fun c s => (x c s : EReal)) k s = ((a k * (1 / n) : ℝ) : EReal))
    ∧ ∀ k, soft (fun k c => (w k c : EReal)) (fun c s => (x c s : EReal)) k s = (a k : EReal) := by
  obtain ⟨n, hn, hlen⟩ := len_coe x s
  have hn0 : n ≠ 0 := hn.ne'
  have hrec : recip (fun c s => (x c s : EReal)) s = ((1 / n : ℝ) : EReal) := by
    rw [recip, hlen, Ideal.div_coe hn0, one_mul]
  have hunit : ∀ c, unit (fun c s => (x c s : EReal)) c s = ((x c s * (1 / n) : ℝ) : EReal) := fun c => by
    rw [unit, hlen, Ideal.div_coe hn0, EReal.coe_mul]
  -- the score, by either way
  let l : Fin 64 → ℝ := fun k => (∑ c, w k c * x c s) * (1 / n)
  have hrise : ∀ k, rise (fun k c => (w k c : EReal)) (fun c s => (x c s : EReal)) k s = ((Real.exp (l k) : ℝ) : EReal) := fun k => by
    simp only [rise, hrec, ← EReal.coe_mul, sum_coe, Ideal.exp_coe, l]
  have hscore : ∀ k, score (fun k c => (w k c : EReal)) (fun c s => (x c s : EReal)) k s = (l k : EReal) := fun k => by
    simp only [score, hunit, ← EReal.coe_mul, sum_coe, l]
    refine congrArg _ ?_
    rw [Finset.sum_mul]
    exact Finset.sum_congr rfl fun c _ => by ring
  obtain ⟨t, ht⟩ := fold_max_coe l
  have hbest : best (fun k c => (w k c : EReal)) (fun c s => (x c s : EReal)) s = (t : EReal) := by
    rw [← ht, best]
    exact congrArg (fun f => (Finset.univ : Finset (Fin 64)).fold max ⊥ f) (funext fun k => hscore k)
  have hlift : ∀ k, lift (fun k c => (w k c : EReal)) (fun c s => (x c s : EReal)) k s = ((Real.exp (l k - t) : ℝ) : EReal) := fun k => by
    rw [lift, hscore, hbest, ← EReal.coe_sub, Ideal.exp_coe]
  have hS : (0 : ℝ) < ∑ k, Real.exp (l k) := Finset.sum_pos (fun k _ => Real.exp_pos _) ⟨0, Finset.mem_univ _⟩
  have hS' : (0 : ℝ) < ∑ k, Real.exp (l k - t) := Finset.sum_pos (fun k _ => Real.exp_pos _) ⟨0, Finset.mem_univ _⟩
  refine ⟨n, fun k => Real.exp (l k) * (1 / ∑ k', Real.exp (l k')), hn0, hlen, hunit, fun k => ?_, fun k => ?_⟩
  · simp only [share, hrise, hrec, sum_coe]
    rw [Ideal.div_coe hS.ne', ← EReal.coe_mul, ← EReal.coe_mul]
    exact congrArg _ (by ring)
  · simp only [soft, hlift, sum_coe]
    rw [Ideal.div_coe hS'.ne', ← EReal.coe_mul]
    refine congrArg _ ?_
    have hfac : ∀ k, Real.exp (l k - t) = Real.exp (l k) * (Real.exp t)⁻¹ := fun k => by
      rw [Real.exp_sub, div_eq_mul_inv]
    simp only [hfac, ← Finset.sum_mul]
    have := (Real.exp_pos t).ne'
    have := hS.ne'
    field_simp

end Reals

/-- A function with no infinity among its values is a real function. -/
theorem exists_real {ι κ : Type*} (X : ι → κ → EReal) (h : ∀ i k, X i k ≠ ⊤ ∧ X i k ≠ ⊥) :
    ∃ x : ι → κ → ℝ, X = fun i k => (x i k : EReal) :=
  ⟨fun i k => (X i k).toReal, funext fun i => funext fun k => (EReal.coe_toReal (h i k).1 (h i k).2).symm⟩

section Agree
variable {W : Fin 64 → Fin 128 → EReal} {X : Fin 128 → Fin 4800 → EReal}
  (hW : ∀ k c, W k c ≠ ⊤ ∧ W k c ≠ ⊥) (hX : ∀ c s, X c s ≠ ⊤ ∧ X c s ≠ ⊥)
include hW hX

/-- The two ways give the same products on finite images and weights. -/
theorem prodF_eq : prodF W X = prodT W X := by
  obtain ⟨w, rfl⟩ := exists_real W hW
  obtain ⟨x, rfl⟩ := exists_real X hX
  funext k c
  refine Finset.sum_congr rfl fun s _ => ?_
  obtain ⟨n, a, hn, hlen, hunit, hshare, hsoft⟩ := pixel w x s
  rw [hshare, hsoft, hunit, ← EReal.coe_mul, ← EReal.coe_mul]
  exact congrArg _ (by ring)

/-- The two ways give the same masses on finite images and weights. -/
theorem massF_eq : massF W X = massT W X := by
  obtain ⟨w, rfl⟩ := exists_real W hW
  obtain ⟨x, rfl⟩ := exists_real X hX
  funext k
  refine Finset.sum_congr rfl fun s _ => ?_
  obtain ⟨n, a, hn, hlen, hunit, hshare, hsoft⟩ := pixel w x s
  rw [hshare, hsoft, hlen, ← EReal.coe_mul]
  exact congrArg _ (by field_simp)

/-- So the two ways give the same descriptor, whatever the centres. -/
theorem descr_eq (C : Fin 64 → Fin 128 → EReal) :
    descr (prodF W X) (massF W X) C = descr (prodT W X) (massT W X) C := by
  rw [prodF_eq hW hX, massF_eq hW hX]

end Agree

end Vlad

end
-- ==== Proof.Block.lean ====
/-
  ONE GRID POINT of the fused kernel: what its eight stores leave in the output block, read at an index.
  All eight images are worked by one chain of operations, `piece`, on that image's two channel halves; `piece_apply`
  reads it at an index as `Vlad.descr` of the fused products and masses, and `out_apply` reads the whole block, the
  row of the block picking the image.
-/
module

public import proofs.«01_k».proof.Proof.Math
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block

open Idealize.ShloMosaic Cert.KernelIdeal Cert.KernelIdeal.Gen

/-- One image's chain of operations: weights `w`, the image's channel halves `x1` and `x2`, centres `z`. -/
def piece {F : FTy → Type} [FloatOps F] (w : Vec F S64x128 .f32) (x1 x2 : Vec F S1x64x4800 .f32)
    (z : Vec F S64x128 .f32) : FVec F S1x64x128 .f32 :=
  k0_pay11 (k0_pay9 w x1 x2) (k0_pay10 w x1 x2) z

/-- A sum over the channels is the sum over the first half plus the sum over the second. -/
theorem sum_halves (f : Fin 128 → EReal) :
    ∑ c, f c = ∑ q : Fin 64, f ⟨q.val, by omega⟩ + ∑ q : Fin 64, f ⟨64 + q.val, by omega⟩ :=
  Fin.sum_univ_add (a := 64) (b := 64) f

/-- An array of 64 rows and 128 columns as a function of row and column. -/
abbrev grid2 (w : Vec Ideal S64x128 .f32) : Fin 64 → Fin 128 → EReal := fun k c => w (ix2 k c)

section Image
variable (w : Vec Ideal S64x128 .f32) (x1 x2 : Vec Ideal S1x64x4800 .f32) (z : Vec Ideal S64x128 .f32)
  (X : Fin 128 → Fin 4800 → EReal)
  (h1 : ∀ (q : Fin 64) (s : Fin 4800), x1 (ix3 0 q s) = X ⟨q.val, by omega⟩ s)
  (h2 : ∀ (q : Fin 64) (s : Fin 4800), x2 (ix3 0 q s) = X ⟨64 + q.val, by omega⟩ s)
include h1 h2

/-- The image's lengths. -/
theorem len_apply (s : Fin 4800) : k0_pay7 (F := Ideal) x1 x2 (ix2 0 s) = Vlad.len X s := by
  pointwise [k0_pay7, k0_pay5, k0_pay6]
  simp only [h1, h2]
  rw [Vlad.len, sum_halves]
  rfl

/-- The image's fused weights. -/
theorem share_apply (k : Fin 64) (s : Fin 4800) :
    k0_pay8 (F := Ideal) w x1 x2 (ix2 k s) = Vlad.share (grid2 w) X k s := by
  have hraw : ∀ k : Fin 64, ∑ c, grid2 w k c * X c s
      = ∑ q : Fin 64, w (ix2 k ⟨q.val, by omega⟩) * X ⟨q.val, by omega⟩ s
        + ∑ q : Fin 64, w (ix2 k ⟨64 + q.val, by omega⟩) * X ⟨64 + q.val, by omega⟩ s := fun k => sum_halves _
  simp only [Vlad.share, Vlad.rise, Vlad.recip, hraw]
  pointwise [k0_pay8, k0_pay5, k0_pay6, k0_pay2, k0_pay3, k0_pay4]
  simp only [h1, h2, len_apply x1 x2 X h1 h2]

/-- The image's products. -/
theorem prod_apply (k : Fin 64) (c : Fin 128) :
    k0_pay9 (F := Ideal) w x1 x2 (ix2 k c) = Vlad.prodF (grid2 w) X k c := by
  pointwise [k0_pay9, k0_pay5, k0_pay6]
  simp only [h1, h2, share_apply w x1 x2 X h1 h2]
  split
  · rfl
  · next h =>
    have hc : (⟨64 + (c.val - 64), by omega⟩ : Fin 128) = c := Fin.ext (by show 64 + (c.val - 64) = c.val; omega)
    simp only [hc]
    rfl

/-- The image's masses: every column of the product with the lengths holds them. -/
theorem mass_apply (k : Fin 64) (q : Fin 8) :
    k0_pay10 (F := Ideal) w x1 x2 (ix2 k q) = Vlad.massF (grid2 w) X k := by
  pointwise [k0_pay10]
  simp only [share_apply w x1 x2 X h1 h2, len_apply x1 x2 X h1 h2]
  rfl

/-- The image's descriptor. -/
theorem piece_apply (k : Fin 64) (c : Fin 128) :
    piece (F := Ideal) w x1 x2 z (ix3 0 k c)
      = Vlad.descr (Vlad.prodF (grid2 w) X) (Vlad.massF (grid2 w) X) (grid2 z) k c := by
  pointwise [piece, k0_pay11]
  simp only [prod_apply w x1 x2 X h1 h2, mass_apply w x1 x2 X h1 h2]
  rfl

end Image

section Block
variable (x0 x1 : Vec Ideal S8x64x4800 .f32) (x2 x3 : Vec Ideal S64x128 .f32)
  (X : Fin 8 → Fin 128 → Fin 4800 → EReal)
  (h1 : ∀ (i : Fin 8) (q : Fin 64) (s : Fin 4800), x0 (ix3 i q s) = X i ⟨q.val, by omega⟩ s)
  (h2 : ∀ (i : Fin 8) (q : Fin 64) (s : Fin 4800), x1 (ix3 i q s) = X i ⟨64 + q.val, by omega⟩ s)
include h1 h2

/-- What a store of the chain on image `o` holds at its own index `x`, which lands on the block's index `y`. -/
theorem tile_apply (o : ℕ) (inb) (inb' : ∀ a, ![0, 0] a + S64x128.size a ≤ S64x128.size a) (x : S1x64x128.Idx) (y : S8x64x128.Idx)
    (e0 : (y 0 : ℕ) = o + (x 0 : ℕ)) (e1 : (y 1 : ℕ) = (x 1 : ℕ)) (e2 : (y 2 : ℕ) = (x 2 : ℕ)) :
    piece (F := Ideal) (View.ld x2 (Rect.unit (s := S64x128) ![0, 0] S64x128.size inb'))
        (View.ld x0 (Rect.unit (s := S8x64x4800) ![o, 0, 0] S1x64x4800.size inb))
        (View.ld x1 (Rect.unit (s := S8x64x4800) ![o, 0, 0] S1x64x4800.size inb))
        (View.ld x3 (Rect.unit (s := S64x128) ![0, 0] S64x128.size inb')) x
      = Vlad.descr (Vlad.prodF (grid2 x2) (X (y 0))) (Vlad.massF (grid2 x2) (X (y 0))) (grid2 x3) (y 1) (y 2) := by
  have hx0 : (x 0 : ℕ) < 1 := (x 0).isLt
  have hx : x = ix3 0 (y 1) (y 2) := by
    funext a
    match a with
    | ⟨0, _⟩ => exact Fin.ext (by show (x 0 : ℕ) = 0; omega)
    | ⟨1, _⟩ => exact Fin.ext e1.symm
    | ⟨2, _⟩ => exact Fin.ext e2.symm
  have hld : ∀ (v : Vec Ideal S64x128 .f32), View.ld v (Rect.unit (s := S64x128) ![0, 0] S64x128.size inb') = v := fun v => by
    funext j
    pointwise
  have hat : ∀ (v : Vec Ideal S8x64x4800 .f32) (q : Fin 64) (s : Fin 4800),
      View.ld v (Rect.unit (s := S8x64x4800) ![o, 0, 0] S1x64x4800.size inb) (ix3 0 q s) = v (ix3 (y 0) q s) := fun v q s => by
    refine View.ld_unit_apply_of _ _ _ _ _ _ fun a => ?_
    match a with
    | ⟨0, _⟩ => show (y 0 : ℕ) = o + 0; omega
    | ⟨1, _⟩ => show (q : ℕ) = 0 + q; omega
    | ⟨2, _⟩ => show (s : ℕ) = 0 + s; omega
  rw [hx, hld, hld]
  exact piece_apply _ _ _ _ (X (y 0)) (fun q s => (hat x0 q s).trans (h1 _ q s)) (fun q s => (hat x1 q s).trans (h2 _ q s)) _ _

/-- The output block of a grid point, read at an index: the descriptor of the image its row names. -/
theorem out_apply (y : S8x64x128.Idx) :
    out0_4 (F := Ideal) x0 x1 x2 x3 y
      = Vlad.descr (Vlad.prodF (grid2 x2) (X (y 0))) (Vlad.massF (grid2 x2) (X (y 0))) (grid2 x3) (y 1) (y 2) := by
  unfold_out out0_4
  canon_tiles j e using cover0_4 ..
  all_goals exact tile_apply x0 x1 x2 x3 X h1 h2 _ _ _ j y (by omega) (by omega) (by omega)

end Block

end Cert.KernelIdeal.Block
-- ==== Proof.Kernel.lean ====
/-
  THE FUSED KERNEL'S RUN with its result: after the grid's last point the output array holds every image's descriptor
  (`arr_eq`), and the trailing reshape lays each image's 64 by 128 entries out as one row (`run`).
-/
module

public import proofs.«01_k».proof.Proof.Block
public import Idealize.ShloMosaic.Lib.Claim

@[expose] public section

set_option maxRecDepth 16384

noncomputable section

namespace Cert.KernelIdeal.Whole

open Idealize.ShloMosaic Idealize.ShloMosaic.TcCoe Idealize.SL.Sem Cert.KernelIdeal Cert.KernelIdeal.Gen
open Idealize.ShloMosaic.Pipeline (Dat)

/-- Image `b` of the batch: channel `c` at pixel `s`, the pixels numbered row by row, 80 to a row. -/
abbrev image (x : Vec Ideal S32x128x60x80 .f32) (b : Fin 32) : Fin 128 → Fin 4800 → EReal :=
  fun c s => x (ix4 b c ⟨s.val / 80, by omega⟩ ⟨s.val % 80, by omega⟩)

/-- Every image's descriptor by the fused way, as one array. -/
def result (x : Vec Ideal S32x128x60x80 .f32) (w z : Vec Ideal S64x128 .f32) : Vec Ideal S32x64x128 .f32 := fun y =>
  Vlad.descr (Vlad.prodF (Block.grid2 w) (image x (y 0))) (Vlad.massF (Block.grid2 w) (image x (y 0))) (Block.grid2 z) (y 1) (y 2)

variable (m : (ℓ : Loc nD τ sig) → Buf (Elt Ideal) ℓ) (ρ : Dev nD → PrngReg)

/-- The batch as launched on device `c`. -/
abbrev X (c : Dev nD) : Vec Ideal S32x128x60x80 .f32 := m ((c.tc : Thread nD τ).loc main_arg0)
/-- The assignment's weights as launched. -/
abbrev Wt (c : Dev nD) : Vec Ideal S64x128 .f32 := m ((c.tc : Thread nD τ).loc main_arg1)
/-- The cluster centres as launched. -/
abbrev Ctr (c : Dev nD) : Vec Ideal S64x128 .f32 := m ((c.tc : Thread nD τ).loc main_arg2)

/-- The grid's points carry one image number each for every row of their block. -/
theorem point_lt (t : Fin cfg0.N) (i : Fin 8) : 8 * t.val + i.val < 32 := by
  have : t.val < 4 := lt_of_lt_of_eq t.isLt N_0
  omega

/-- Where each window's block lies at grid point `t`, counted in blocks. -/
theorem idx (t : Fin cfg0.N) :
    (win0_0.index t 0 = t.val ∧ win0_0.index t 1 = 0 ∧ win0_0.index t 2 = 0)
    ∧ (win0_1.index t 0 = t.val ∧ win0_1.index t 1 = 1 ∧ win0_1.index t 2 = 0)
    ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0) :=
  (by decide +kernel : ∀ t : Fin cfg0.N, (win0_0.index t 0 = t.val ∧ win0_0.index t 1 = 0 ∧ win0_0.index t 2 = 0)
    ∧ (win0_1.index t 0 = t.val ∧ win0_1.index t 1 = 1 ∧ win0_1.index t 2 = 0)
    ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0)) t

/-- The region finds the batch with each image's pixels in one row. -/
theorem entry_apply (c : Dev nD) (b : Fin 32) (ch : Fin 128) (s : Fin 4800) :
    V m c main_v0 (ix3 b ch s) = image (X m c) b ch s := by
  have h : V m c main_v0 = shapeCast S32x128x4800 (X m c) shapeCasts_S32x128x60x80_S32x128x4800 := by
    show StableHlo.after hostOps0 _ _ = _
    after_results
    rfl
  rw [h]
  pointwise

/-- The first window's block holds its images' first 64 channels. -/
theorem low_apply (c : Dev nD) (t : Fin cfg0.N) (i : Fin 8) (q : Fin 64) (s : Fin 4800) :
    (iblk m c 0 t : Vec Ideal S8x64x4800 .f32) (ix3 i q s)
      = image (X m c) ⟨8 * t.val + i.val, point_lt t i⟩ ⟨q.val, by omega⟩ s := by
  rw [← entry_apply]
  unfold iblk View.read
  blk_ext!
  all_goals simp only [idx t]
  all_goals omega

/-- The second window's block holds the same images' last 64 channels. -/
theorem high_apply (c : Dev nD) (t : Fin cfg0.N) (i : Fin 8) (q : Fin 64) (s : Fin 4800) :
    (iblk m c 1 t : Vec Ideal S8x64x4800 .f32) (ix3 i q s)
      = image (X m c) ⟨8 * t.val + i.val, point_lt t i⟩ ⟨64 + q.val, by omega⟩ s := by
  rw [← entry_apply]
  unfold iblk View.read
  blk_ext!
  all_goals simp only [idx t]
  all_goals omega

/-- The third window's block is the weights, whole. -/
theorem weights_eq (c : Dev nD) (t : Fin cfg0.N) : (iblk m c 2 t : Vec Ideal S64x128 .f32) = Wt m c := by
  funext j
  unfold iblk View.read
  rw [V_main_arg1]
  blk_ext!
  all_goals simp only [idx t]
  all_goals omega

/-- The fourth window's block is the centres, whole. -/
theorem centres_eq (c : Dev nD) (t : Fin cfg0.N) : (iblk m c 3 t : Vec Ideal S64x128 .f32) = Ctr m c := by
  funext j
  unfold iblk View.read
  rw [V_main_arg2]
  blk_ext!
  all_goals simp only [idx t]
  all_goals omega

/-- The output array after the run: every image's descriptor. -/
theorem arr_eq (c : Dev nD) : (dats m 0 c).arrAt 4 cfg0.N = result (X m c) (Wt m c) (Ctr m c) := by
  refine (dats m 0 c).arrAt_eq_of_covers 4 _ (by decide +kernel) fun t hf y => ?_
  rw [after0_4]
  have hemb : ((cfg0.win 4).blk t).view.emb y = (ix3 ⟨8 * t.val + (y 0).val, point_lt t (y 0)⟩ (y 1) (y 2) : S32x64x128.Idx) := by
    blk_ext!
    all_goals simp only [idx t]
    all_goals omega
  rw [hemb, weights_eq, centres_eq]
  exact Block.out_apply _ _ _ _ (fun i => image (X m c) ⟨8 * t.val + i.val, point_lt t i⟩)
    (low_apply m c t) (high_apply m c t) ((cfg0.win 4).xinj (cfg0.grid.coords t) y)

/-- The result buffer after the trailing reshape. -/
theorem tail_eq (c : Dev nD) :
    Pipeline.afterTail₀ cfgs (dats m) 0 (V0 m) [hostOps1] c main_v2
      = shapeCast S32x8192 (result (X m c) (Wt m c) (Ctr m c)) shapeCasts_S32x64x128_S32x8192 := by
  show StableHlo.after hostOps1 _ _ = _
  after_results
  erw [Pipeline.withArrays_arr_shared spec0 c (V0 m c) _ ((dats m 0 c).arrAt_sharedIn sharedIn0 (V0 m c) (fun w => rfl) _) 4]
  rw [← arr_eq m c]
  rfl

/-- The kernel runs to the end, leaving its result at every image's descriptor and its arguments as launched. -/
theorem run : θ_run defs (onTc (τ := τ) (main (F := Ideal))) ⟨m, fun _ => 0, ρ⟩ fun r => ∀ c : Dev nD,
    r.2.mem ((c.tc : Thread nD τ).loc main_v2)
        = shapeCast S32x8192 (result (X m c) (Wt m c) (Ctr m c)) shapeCasts_S32x64x128_S32x8192
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono
    (fun _ h c => ⟨((h.1 c).2 main_v2 (Pipeline.mem_restRefs_of main_v2 (by decide) (by decide))).trans (tail_eq m c), h.2.1 c⟩)
    (θ_run_and (run_main m ρ) (frame m ρ))

end Cert.KernelIdeal.Whole

end
-- ==== Proof.Reference.lean ====
/-
  THE REFERENCE read at an index: its result, an image's 64 by 128 entries in one row, holds every image's descriptor by
  the textbook way (`Vlad.descr` of `Vlad.prodT` and `Vlad.massT`). One theorem per named quantity, each from the ones
  before it.
-/
module

public import proofs.«01_k».proof.Proof.Math
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Whole

open Idealize.ShloMosaic Cert.ReferenceIdeal Cert.ReferenceIdeal.Read

variable (x : Vec Ideal S32x128x60x80 .f32) (w z : Vec Ideal S64x128 .f32)

/-- Image `b` of the batch: channel `c` at pixel `s`, the pixels numbered row by row, 80 to a row. -/
abbrev image (b : Fin 32) : Fin 128 → Fin 4800 → EReal :=
  fun c s => x (ix4 b c ⟨s.val / 80, by omega⟩ ⟨s.val % 80, by omega⟩)

/-- An array of 64 rows and 128 columns as a function of row and column. -/
abbrev grid2 : Fin 64 → Fin 128 → EReal := fun k c => w (ix2 k c)

/-- The unit image. -/
theorem unit_apply (b : Fin 32) (c : Fin 128) (s : Fin 4800) :
    val_main_v5 (F := Ideal) x (ix3 b c s) = Vlad.unit (image x b) c s := by
  pointwise [val_main_v5, val_main_v4, val_main_v3, val_main_v2, val_main_v1, val_main_cst, val_main_v0, val_main_call0_v2, val_main_call0_v1, val_main_call0_v0, val_main_call0_cst]
  rfl

/-- The scores. -/
theorem score_apply (b : Fin 32) (k : Fin 64) (s : Fin 4800) :
    val_main_v7 (F := Ideal) x w (ix3 b k s) = Vlad.score (grid2 w) (image x b) k s := by
  pointwise [val_main_v7, val_main_v6]
  simp only [unit_apply]
  rfl

/-- The pattern a maximum starts from is the least value. -/
theorem bits_bot : Ideal.ofBits .f32 0xFF800000#32 = ⊥ := by
  simp [Ideal.ofBits, Ideal.ieee]

/-- The value the maximum over the clusters starts from is the least one. -/
theorem start_bot (i : S_.Idx) : (val_main_cst_0 (F := Ideal) i : EReal) = ⊥ := bits_bot

/-- A reduction by maximum over the middle axis, as a fold over that axis. -/
theorem fold_middle (y : FVec Ideal S32x64x4800 .f32) (v : FVec Ideal S_ .f32) (h : S32x64x4800.ReducesTo [1] S32x4800)
    (h0 : 0 < S_.numel) (b : Fin 32) (s : Fin 4800) :
    Host.reduce FloatOps.maximumf y v h h0 (ix2 b s)
      = (Finset.univ : Finset (Fin 64)).fold FloatOps.maximumf (v (Shape.Idx.first h0)) fun k => y (ix3 b k s) := by
  rw [Host.reduce_eq_fold, Shape.ReducesTo.fold_fiber_r3_a1]
  rfl

/-- The ideal maximum folds as the order's. -/
theorem fold_order (c : Ideal .f32) (f : Fin 64 → Ideal .f32) :
    (Finset.univ : Finset (Fin 64)).fold FloatOps.maximumf c f
      = (Finset.univ : Finset (Fin 64)).fold (max : EReal → EReal → EReal) c f := rfl

/-- The reduction by maximum over the clusters, as a fold from the least value. -/
theorem max_apply (b : Fin 32) (s : Fin 4800) :
    val_main_v8 (F := Ideal) x w (ix2 b s)
      = (Finset.univ : Finset (Fin 64)).fold (max : EReal → EReal → EReal) ⊥ fun k => val_main_v7 (F := Ideal) x w (ix3 b k s) := by
  unfold val_main_v8
  rw [fold_middle, fold_order, start_bot]

/-- The constant the largest score is compared with is the least value. -/
theorem floor_apply (b : Fin 32) (s : Fin 4800) : (val_main_v9 (F := Ideal) (ix2 b s) : EReal) = ⊥ := bits_bot

/-- The ideal maximum of two values is the order's. -/
theorem larger_order (p q : Ideal .f32) : FloatOps.maximumf p q = max (α := EReal) p q := rfl

/-- The larger of the constant and the reduction. -/
theorem larger_apply (b : Fin 32) (s : Fin 4800) :
    val_main_v10 (F := Ideal) x w (ix2 b s)
      = max (α := EReal) (val_main_v9 (F := Ideal) (ix2 b s)) (val_main_v8 (F := Ideal) x w (ix2 b s)) :=
  (val_main_v10_apply x w (ix2 b s)).trans (larger_order _ _)

/-- The largest score of a pixel. -/
theorem best_apply (b : Fin 32) (s : Fin 4800) :
    val_main_v10 (F := Ideal) x w (ix2 b s) = Vlad.best (grid2 w) (image x b) s := by
  rw [larger_apply, floor_apply, max_apply, bot_sup_eq, Vlad.best]
  simp only [score_apply]

/-- The exponentials. -/
theorem lift_apply (b : Fin 32) (k : Fin 64) (s : Fin 4800) :
    val_main_v14 (F := Ideal) x w (ix3 b k s) = Vlad.lift (grid2 w) (image x b) k s := by
  pointwise [val_main_v14, val_main_v13, val_main_v12, val_main_v11]
  simp only [score_apply, best_apply]
  rfl

/-- The softmax over the clusters. -/
theorem soft_apply (b : Fin 32) (k : Fin 64) (s : Fin 4800) :
    val_main_v18 (F := Ideal) x w (ix3 b k s) = Vlad.soft (grid2 w) (image x b) k s := by
  pointwise [val_main_v18, val_main_v17, val_main_v16, val_main_v15, val_main_cst_2]
  simp only [lift_apply]
  rfl

/-- The residuals. -/
theorem resid_apply (b : Fin 32) (k : Fin 64) (c : Fin 128) :
    val_main_v26 (F := Ideal) x w z (ix3 b k c)
      = Vlad.resid (Vlad.prodT (grid2 w) (image x b)) (Vlad.massT (grid2 w) (image x b)) (grid2 z) k c := by
  pointwise [val_main_v26, val_main_v25, val_main_v24, val_main_v23, val_main_v22, val_main_v21, val_main_v20, val_main_v19, val_main_cst_3]
  simp only [soft_apply, unit_apply]
  rfl

/-- The residuals with every cluster's row scaled to unit length. -/
theorem intra_apply (b : Fin 32) (k : Fin 64) (c : Fin 128) :
    val_main_v31 (F := Ideal) x w z (ix3 b k c)
      = Vlad.intra (Vlad.prodT (grid2 w) (image x b)) (Vlad.massT (grid2 w) (image x b)) (grid2 z) k c := by
  pointwise [val_main_v31, val_main_v30, val_main_v29, val_main_v28, val_main_v27, val_main_cst_4, val_main_call1_v2, val_main_call1_v1, val_main_call1_v0, val_main_call1_cst]
  simp only [resid_apply, Vlad.intra, Vlad.eps]

/-- The result. -/
theorem result_apply (b : Fin 32) (j : Fin 8192) :
    val_main_v37 (F := Ideal) x w z (ix2 b j)
      = Vlad.descr (Vlad.prodT (grid2 w) (image x b)) (Vlad.massT (grid2 w) (image x b)) (grid2 z) ⟨j.val / 128, by omega⟩ ⟨j.val % 128, by omega⟩ := by
  pointwise [val_main_v37, val_main_v36, val_main_v35, val_main_v34, val_main_v33, val_main_v32, val_main_cst_5, val_main_call2_v2, val_main_call2_v1, val_main_call2_v0, val_main_call2_cst]
  simp only [intra_apply, Vlad.descr, Vlad.eps]
  rw [Fin.sum_divmod_fin 128 fun k c => Vlad.intra (Vlad.prodT (grid2 w) (image x b)) (Vlad.massT (grid2 w) (image x b)) (grid2 z) k c
    * Vlad.intra (Vlad.prodT (grid2 w) (image x b)) (Vlad.massT (grid2 w) (image x b)) (grid2 z) k c]

end Cert.ReferenceIdeal.Whole

end
-- ==== Proof.lean ====
/-
  THE CLAIM (`Cert.Claim`), assembled: the frames of both readings of the kernel are the generated runs', the reference's
  its value run's; the value claim puts the kernel's run (`KernelIdeal.Whole.run`) beside the reference's, whose results
  agree because the fused and the textbook way give one descriptor (`Vlad.descr_eq`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.Kernel
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel's result as one row per image, read at an index. -/
theorem row_apply (x : Vec Ideal Cert.KernelIdeal.S32x128x60x80 .f32) (w z : Vec Ideal Cert.KernelIdeal.S64x128 .f32)
    (b : Fin 32) (j : Fin 8192) :
    shapeCast Cert.KernelIdeal.S32x8192 (Cert.KernelIdeal.Whole.result x w z)
        Cert.KernelIdeal.Facts₀.shapeCasts_S32x64x128_S32x8192 (ix2 b j)
      = Cert.KernelIdeal.Whole.result x w z (ix3 b ⟨j.val / 128, by omega⟩ ⟨j.val % 128, by omega⟩) := by
  pointwise

/-- With a finite batch and finite weights the reference's result is the kernel's. -/
theorem values_eq (x : Vec Ideal Cert.KernelIdeal.S32x128x60x80 .f32) (w z : Vec Ideal Cert.KernelIdeal.S64x128 .f32)
    (hx : ∀ i, (x i : EReal) ≠ ⊤ ∧ (x i : EReal) ≠ ⊥) (hw : ∀ i, (w i : EReal) ≠ ⊤ ∧ (w i : EReal) ≠ ⊥) :
    Cert.ReferenceIdeal.Read.val_main_v37 (F := Ideal) x w z
      = shapeCast Cert.KernelIdeal.S32x8192 (Cert.KernelIdeal.Whole.result x w z)
          Cert.KernelIdeal.Facts₀.shapeCasts_S32x64x128_S32x8192 := by
  funext i
  obtain ⟨b, j, rfl⟩ : ∃ (b : Fin 32) (j : Fin 8192), i = ix2 b j := ⟨i 0, i 1, by funext a; fin_cases a <;> rfl⟩
  rw [row_apply]
  exact (Cert.ReferenceIdeal.Whole.result_apply x w z b j).trans
    (congrFun (congrFun (Vlad.descr_eq (fun _ _ => hw _) (fun _ _ => hx _) _) _) _).symm

/-- The reference's arguments end as launched and every counter at zero. -/
theorem reference_frame : Cert.quiescent_ReferenceIdeal := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- The value claim: from one batch, one set of weights and one set of centres, the first two finite, the kernel and the
    reference end with the same result. -/
theorem values : Cert.algebraic_KernelIdeal_ReferenceIdeal_pre_finite (hPre_finite := Cert.Pre_finite.shapes) := by
  intro m g m' g' hpre hagree
  refine ⟨_, Cert.KernelIdeal.Whole.run m g, (θ_run Cert.ReferenceIdeal.defs _ _).mono (fun r h c => ⟨(h c).1.trans ?_, (h c).2⟩)
    (Cert.ReferenceIdeal.Value.run (F := Ideal) m' g')⟩
  obtain ⟨e0, e1, e2⟩ := hagree c
  rw [Cert.ReferenceIdeal.Read.val_main_v37_eq, e0, e1, e2]
  exact values_eq _ _ _ (letI := Cert.Pre_finite.shapes; Cert.Pre_finite.batch_finite _ _ _ (hpre c).1)
    (letI := Cert.Pre_finite.shapes; Cert.Pre_finite.weight_finite _ _ _ (hpre c).2)

/-- Everything the certificate claims. -/
theorem claim : Cert.Claim :=
  ⟨Cert.Kernel.Gen.facts, Cert.KernelIdeal.Gen.facts, Cert.ReferenceIdeal.Gen.facts, Cert.Pre_finite.shapes,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, values⟩

end Cert.Proof

end
